-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S512x256 : Shape := ⟨2, ![512, 256]⟩
abbrev S256x1024 : Shape := ⟨2, ![256, 1024]⟩
abbrev S_ : Shape := ⟨0, ![]⟩

class Facts : Prop where
  bcast_S_S512x256 : S_.BroadcastsInDim S512x256 (![] : Fin 0 → Fin S512x256.rank)
  bcast_S_S256x1024 : S_.BroadcastsInDim S256x1024 (![] : Fin 0 → Fin S256x1024.rank)

variable [Facts]

def fn {F : FTy → Type} [FloatOps F] (main_arg0 : FVec F S512x256 .f32) (main_arg1 : FVec F S256x1024 .f32) : IVec S512x256 1 × IVec S256x1024 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_v3 : FVec F S256x1024 .f32 := Host.absf main_arg1
  let main_cst_0 : FVec F S_ .f32 := constant S_ .f32 0x7F800000#32
  let main_v4 : FVec F S256x1024 .f32 := broadcastInDim S256x1024 ![] bcast_S_S256x1024 main_cst_0
  let main_v5 : IVec S256x1024 1 := cmpf .olt main_v3 main_v4
  (main_v2, main_v5)
-- ==== Kernel.lean ====
abbrev S512x256 : Shape := ⟨2, ![512, 256]⟩
abbrev S256x1024 : Shape := ⟨2, ![256, 1024]⟩
abbrev S512 : Shape := ⟨1, ![512]⟩
abbrev S_ : Shape := ⟨0, ![]⟩
abbrev S256x128 : Shape := ⟨2, ![256, 128]⟩
abbrev S512x128 : Shape := ⟨2, ![512, 128]⟩
abbrev S1024 : Shape := ⟨1, ![1024]⟩
abbrev S1x1024 : Shape := ⟨2, ![1, 1024]⟩
abbrev S256x512 : Shape := ⟨2, ![256, 512]⟩
abbrev S512x512 : Shape := ⟨2, ![512, 512]⟩
abbrev S1x128 : Shape := ⟨2, ![1, 128]⟩
abbrev S128x512 : Shape := ⟨2, ![128, 512]⟩

abbrev nBuf : Space → Nat
  | .hbm => 3
  | .vmem => 3
  | .smem => 0
  | _ => 0

abbrev bufTy : (tb : Table) → Fin (tcTables nBuf tb) → BufTy
  | .hbm, ⟨0, _⟩ => ⟨S512x256, .f32⟩
  | .hbm, ⟨1, _⟩ => ⟨S256x1024, .f32⟩
  | .hbm, ⟨2, _⟩ => ⟨S512, .f32⟩
  | .local _ .vmem, ⟨0, _⟩ => ⟨S512, .f32⟩
  | .local _ .vmem, ⟨1, _⟩ => ⟨S512x256, .f32⟩
  | .local _ .vmem, ⟨2, _⟩ => ⟨S256x1024, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0

abbrev nD : Nat := 1
abbrev τ : Topo := Topo.v7x

variable {F : FTy → Type} [FloatOps F]

abbrev grid0 : Pipeline.Grid := .none

abbrev stage0_0 : Fin 1 → Memref sig .tc .vmem S512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S512x256 : Shape := ⟨2, ![512, 256]⟩
abbrev S256x1024 : Shape := ⟨2, ![256, 1024]⟩
abbrev S1024x256 : Shape := ⟨2, ![1024, 256]⟩
abbrev S1x1024x256 : Shape := ⟨3, ![1, 1024, 256]⟩
abbrev S512x1x256 : Shape := ⟨3, ![512, 1, 256]⟩
abbrev S512x1024x256 : Shape := ⟨3, ![512, 1024, 256]⟩
abbrev S_ : Shape := ⟨0, ![]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 54
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x1024, .f32⟩
  | .hbm, ⟨2, _⟩ => ⟨S1024x256, .f32⟩
  | .hbm, ⟨3, _⟩ => ⟨S1x1024x256, .f32⟩
  | .hbm, ⟨4, _⟩ => ⟨S512x1x256, .f32⟩
  | .hbm, ⟨5, _⟩ => ⟨S512x1024x256, .f32⟩
  | .hbm, ⟨6, _⟩ => ⟨S512x1024x256, .f32⟩
  | .hbm, ⟨7, _⟩ => ⟨S512x1024x256, .f32⟩
  | .hbm, ⟨8, _⟩ => ⟨S512x1024x256, .f32⟩
  | .hbm, ⟨9, _⟩ => ⟨S_, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .i32⟩
  | .hbm, ⟨19, _⟩ => ⟨S_, .f32⟩
  | .hbm, ⟨20, _⟩ => ⟨S_, .i32⟩
  | .hbm, ⟨21, _⟩ => ⟨S512, .f32⟩
  | .hbm, ⟨22, _⟩ => ⟨S512, .i32⟩
  | .hbm, ⟨23, _⟩ => ⟨S1024x256, .f32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S1, .i32⟩
  | .hbm, ⟨33, _⟩ => ⟨S_, .i32⟩
  | .hbm, ⟨34, _⟩ => ⟨S512x1, .i32⟩
  | .hbm, ⟨35, _⟩ => ⟨S512x1, .i1⟩
  | .hbm, ⟨36, _⟩ => ⟨S1x1, .i32⟩
  | .hbm, ⟨37, _⟩ => ⟨S512x1, .i32⟩
  | .hbm, ⟨38, _⟩ => ⟨S512x1, .i1⟩
  | .hbm, ⟨39, _⟩ => ⟨S512x1, .i1⟩
  | .hbm, ⟨40, _⟩ => ⟨S_, .i1⟩
  | .hbm, ⟨41, _⟩ => ⟨S512, .i1⟩
  | .hbm, ⟨42, _⟩ => ⟨S512x256, .f32⟩
  | .hbm, ⟨43, _⟩ => ⟨S512x256, .i1⟩
  | .hbm, ⟨44, _⟩ => ⟨S_, .f32⟩
  | .hbm, ⟨45, _⟩ => ⟨S512x256, .f32⟩
  | .hbm, ⟨46, _⟩ => ⟨S512x256, .f32⟩
  | .hbm, ⟨47, _⟩ => ⟨S512x256, .f32⟩
  | .hbm, ⟨48, _⟩ => ⟨S512x256, .f32⟩
  | .hbm, ⟨49, _⟩ => ⟨S_, .f32⟩
  | .hbm, ⟨50, _⟩ => ⟨S512, .f32⟩
  | .hbm, ⟨51, _⟩ => ⟨S_, .f32⟩
  | .hbm, ⟨52, _⟩ => ⟨S512, .f32⟩
  | .hbm, ⟨53, _⟩ => ⟨S512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v13 : Ref sig .tc := ⟨.hbm, 22, rfl⟩
abbrev main_v14 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_call1_cst : Ref sig .tc := ⟨.hbm, 44, rfl⟩
abbrev main_call1_v15 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_2 : Ref sig .tc := ⟨.hbm, 49, rfl⟩
abbrev main_v18 : Ref sig .tc := ⟨.hbm, 50, rfl⟩
abbrev main_cst_3 : Ref sig .tc := ⟨.hbm, 51, rfl⟩
abbrev main_v19 : Ref sig .tc := ⟨.hbm, 52, rfl⟩
abbrev main_v20 : Ref sig .tc := ⟨.hbm, 53, rfl⟩

abbrev nD : Nat := 1
abbrev τ : Topo := Topo.v7x

variable {F : FTy → Type} [FloatOps F]
-- ==== Proof.Value.lean ====
/-
  What the kernel's one grid point leaves in its output buffer, and so what the result array holds after the run: one
  pure term (`kern`) of the two argument arrays, the printed body's payloads composed.
-/
module

public import proofs.«01_k».proof.Proof.Gen.KernelIdeal.Value

@[expose] public section

noncomputable section

namespace Cert.Proof.Value

open Cert.KernelIdeal Cert.KernelIdeal.Gen Idealize.ShloMosaic Idealize.ShloMosaic.TcCoe Idealize.SL.Sem
open Idealize.ShloMosaic.Pipeline (Dat)

variable {F : FTy → Type} [FloatOps F]

/-- The body's stored vector as a function of the images `X` and the codebook `M`. -/
def kern (X : Vec F S512x256 .f32) (M : Vec F S256x1024 .f32) : FVec F S512 .f32 :=
  k0_pay1 (k0_pay3 X) (k0_pay4 M) (k0_pay5 X M) (k0_pay6 X M) (k0_pay7 X M) (k0_pay8 M)

/-- The zero offset of a vector. -/
theorem off1 : (![0] : Fin 1 → Nat) = fun _ => 0 := funext fun a => by fin_cases a; rfl
/-- The zero offset of a matrix. -/
theorem off2 : (![0, 0] : Fin 2 → Nat) = fun _ => 0 := funext fun a => by fin_cases a <;> rfl

/-- A whole-array load of a buffer that one whole-array copy filled reads what was copied. -/
theorem load_copied {sg : RefSig} {κ : Kind} {sp : Space} {S : Shape} {e : EltTy} (v : View sg κ sp S e)
    {off : Fin S.rank → Nat} (h : off = fun _ => 0) (inb : ∀ a, off a + S.size a ≤ S.size a) (w : S.Idx → Elt F e) :
    v.readCov [(⟨Rect.whole S, w⟩ : View.Piece (Elt F) S e)] (Rect.unit off S.size inb).toLoadRect = w := by
  subst h
  exact View.readCov_unit_zero v rfl inb w

/-- The output buffer after the body holds `kern` of the two arrays: each was copied whole into its scratch buffer and
    loaded whole from there. -/
theorem out_eq (c : Dev nD) (a2 : Memref sig .tc .vmem S512 .f32) (h2 : a2.IsWhole)
    (a3 : Memref sig .tc .vmem S512x256 .f32) (h3 : a3.IsWhole) (a4 : Memref sig .tc .vmem S256x1024 .f32) (h4 : a4.IsWhole)
    (X : Vec F S512x256 .f32) (M : Vec F S256x1024 .f32) :
    out0_A_0 c a2 h2 a3 h3 a4 h4 X M = kern X M := by
  unfold out0_A_0
  rw [View.read_writes_eq_canon _ _ _ (cover0_A_0 c a2 h2 a3 h3 a4 h4 X M)]
  unfold kernelRun0_A
  dsimp only
  sl_unfold_words
  rw [View.canon_unit_zero off1, load_copied a3.view off2, load_copied a4.view off2]
  rfl

variable (m : (ℓ : Loc nD τ sig) → Buf (Elt F) ℓ) (ρ : Dev nD → PrngReg)

/-- The grid's one point. -/
abbrev pt : Fin cfg0.N := ⟨0, by decide +kernel⟩

/-- The result array after the run is `kern` of the launched arguments: the one point writes back its whole block,
    and that block is the whole array. -/
theorem final_eq (c : Dev nD) :
    (dats m 0 c).arrAt 0 cfg0.N = kern (m ((c : Thread nD τ).loc main_arg0)) (m ((c : Thread nD τ).loc main_arg1)) := by
  funext i
  have hz : win0_0.index pt 0 = 0 := by decide +kernel
  have hi : ((cfg0.win 0).blk pt).view.emb i = i := by
    funext a
    apply Fin.ext
    match a with
    | ⟨0, _⟩ => exact Pipeline.Window.rect_emb_val_of_index_zero win0_0 pt 0 hz i
  have h := (dats m 0 c).arrAt_emb_eq_flushed 0 (Cert.KernelIdeal.Value.disjoint0) pt (flush0_0 pt) i
  rw [hi, Cert.KernelIdeal.Value.flushed0_A, out_eq] at h
  exact h

/-- The kernel's run: the result buffer ends at `kern` of the launched arguments, which are unchanged. -/
theorem run : θ_run defs (onTc (τ := τ) (main (F := F))) ⟨m, fun _ => 0, ρ⟩ fun r => ∀ c : Dev nD,
      r.2.mem ((c : Thread nD τ).loc main_v0) = kern (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Cert.KernelIdeal.Value.run_blocks m ρ)

end Cert.Proof.Value

end
-- ==== Proof.Consts.lean ====
/-
  The float constants the two programs spell, as the extended reals their patterns denote.
-/
module

public import Idealize.ShloMosaic.PureOps.Ideal

@[expose] public section

noncomputable section

namespace Cert.Proof.Consts

open Idealize.ShloMosaic

/-- The kernel's factor of the images denotes `-2`. -/
theorem ofBits_neg_two : Ideal.ofBits .f32 0xC0000000#32 = ((-2 : ℝ) : EReal) := by
  simp [Ideal.ofBits, Ideal.ieee, -EReal.coe_mul, -EReal.coe_neg]; norm_num

/-- The kernel's last factor denotes `1 / 256`. -/
theorem ofBits_inv256 : Ideal.ofBits .f32 0x3B800000#32 = ((1 / 256 : ℝ) : EReal) := by
  simp [Ideal.ofBits, Ideal.ieee, -EReal.coe_mul]; norm_num

/-- The reference's divisor denotes `256`. -/
theorem ofBits_256 : Ideal.ofBits .f32 0x43800000#32 = ((256 : ℝ) : EReal) := by
  simp [Ideal.ofBits, Ideal.ieee, -EReal.coe_mul]; norm_num

/-- The initial value of the kernel's minimum denotes `+∞`. -/
theorem ofBits_top : Ideal.ofBits .f32 0x7F800000#32 = ⊤ := by
  simp [Ideal.ofBits, Ideal.ieee]

/-- The initial value of the reference's maximum denotes `-∞`. -/
theorem ofBits_bot : Ideal.ofBits .f32 0xFF800000#32 = ⊥ := by
  simp [Ideal.ofBits, Ideal.ieee]

end Cert.Proof.Consts

end
-- ==== Proof.Dist.lean ====
/-
  The real numbers behind both programs: the squared distance of an image and a codebook entry, the expansion of it the
  kernel adds up, and three facts about minima that put an extended-real minimum on a real one.
-/
module

public import Mathlib.Data.EReal.Basic
public import Mathlib.Data.EReal.Operations
public import Mathlib.Data.Finset.Fold
public import Mathlib.Order.Bounds.Basic
public import Mathlib.Algebra.BigOperators.Ring.Finset
public import Mathlib.Tactic.Ring
public import Mathlib.Tactic.FinCases
public import Mathlib.Data.Finset.Max
public import Mathlib.Data.Fintype.Basic

@[expose] public section

noncomputable section

namespace Cert.Proof

open scoped BigOperators

/-- The squared distance of image `b` and codebook entry `k`. -/
def dist (x : Fin 512 → Fin 256 → ℝ) (μ : Fin 256 → Fin 1024 → ℝ) (b : Fin 512) (k : Fin 1024) : ℝ :=
  ∑ g, (x b g - μ g k) * (x b g - μ g k)

/-- The squared distance expanded, in the kernel's grouping. -/
theorem dist_expand (x : Fin 512 → Fin 256 → ℝ) (μ : Fin 256 → Fin 1024 → ℝ) (b : Fin 512) (k : Fin 1024) :
    ((∑ g, -2 * x b g * μ g k) + ∑ g, μ g k * μ g k) + ∑ g, x b g * x b g = dist x μ b k := by
  unfold dist
  rw [← Finset.sum_add_distrib, ← Finset.sum_add_distrib]
  exact Finset.sum_congr rfl fun g _ => by ring

/-- A finite sum of reals is the same sum in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The smaller of two reals is the same in the extended reals. -/
theorem coe_min (a b : ℝ) : ((min a b : ℝ) : EReal) = min (a : EReal) (b : EReal) :=
  EReal.coe_strictMono.monotone.map_min

/-- The least of eight numbers, taken in order. -/
def min8 (s : Fin 8 → ℝ) : ℝ := min (min (min (min (min (min (min (s 0) (s 1)) (s 2)) (s 3)) (s 4)) (s 5)) (s 6)) (s 7)

/-- The smaller of two numbers has every property both have. -/
theorem min_ind {p : ℝ → Prop} {a b : ℝ} (ha : p a) (hb : p b) : p (min a b) := by
  rcases min_choice a b with h | h <;> rw [h] <;> assumption

/-- The least of eight numbers has every property all eight have. -/
theorem min8_ind {p : ℝ → Prop} {s : Fin 8 → ℝ} (h : ∀ q, p (s q)) : p (min8 s) :=
  min_ind (p := p) (min_ind (p := p) (min_ind (p := p) (min_ind (p := p) (min_ind (p := p) (min_ind (p := p)
    (min_ind (p := p) (h 0) (h 1)) (h 2)) (h 3)) (h 4)) (h 5)) (h 6)) (h 7)

/-- The least of eight numbers is below each. -/
theorem min8_le (s : Fin 8 → ℝ) (q : Fin 8) : min8 s ≤ s q := by
  unfold min8
  fin_cases q <;> simp

/-- A minimum folded from `⊤` over a finite nonempty index type, of real terms, is one of the terms, the least. -/
theorem fold_min_real {n : ℕ} [NeZero n] (r : Fin n → ℝ) :
    ∃ l, (Finset.univ : Finset (Fin n)).fold min ⊤ (fun i => (r i : EReal)) = (r l : EReal) ∧ ∀ i, r l ≤ r i := by
  obtain ⟨l, -, hl⟩ := Finset.exists_min_image Finset.univ r ⟨0, Finset.mem_univ _⟩
  refine ⟨l, le_antisymm ?_ ?_, fun i => hl i (Finset.mem_univ i)⟩
  · exact Finset.fold_min_le _ |>.mpr (Or.inr ⟨l, Finset.mem_univ l, le_rfl⟩)
  · exact Finset.le_fold_min _ |>.mpr ⟨le_top, fun i _ => EReal.coe_le_coe_iff.mpr (hl i (Finset.mem_univ i))⟩

end Cert.Proof

end
-- ==== Proof.KernelScore.lean ====
/-
  The kernel's intermediate vectors read at an element, for real images and a real codebook: the cross terms of one
  column block, the codebook's squared norms, the images' squared norms.
-/
module

public import proofs.«01_k».proof.Proof.Value
public import proofs.«01_k».proof.Proof.Consts
public import proofs.«01_k».proof.Proof.Dist
public import Idealize.ShloMosaic.Lib.Pointwise

@[expose] public section

noncomputable section

namespace Cert.Proof.Value

open Cert.KernelIdeal Cert.KernelIdeal.Gen Idealize.ShloMosaic
open scoped BigOperators

variable {X : FVec Idealize.ShloMosaic.Ideal S512x256 .f32} {M : FVec Idealize.ShloMosaic.Ideal S256x1024 .f32}
variable {x : Fin 512 → Fin 256 → ℝ} {μ : Fin 256 → Fin 1024 → ℝ}

/-- The product of the images, times `-2`, with the 512 codebook columns from column `o` on. -/
theorem cross_apply (hX : ∀ b g, X (ix2 b g) = (x b g : EReal)) (hM : ∀ g k, M (ix2 g k) = (μ g k : EReal))
    (o : Nat) (h : S256x1024.Slices ![0, o] S256x512) (b : Fin 512) (n : Fin 512) (k : Fin 1024) (hk : k.val = o + n.val) :
    matmul dot_S512x256_S256x512_S512x512_1_0_0_1_n_n none (k0_pay2 X) (extractStridedSlice S256x512 ![0, o] M h)
        (constant S512x512 .f32 0x00000000#32) (ix2 b n)
      = ((∑ g, -2 * x b g * μ g k : ℝ) : EReal) := by
  rw [coe_sum]
  pointwise [dot_S512x256_S256x512_S512x512_1_0_0_1_n_n, k0_pay2]
  refine Finset.sum_congr rfl fun g _ => ?_
  rw [hX, show (⟨o + n.val, _⟩ : Fin 1024) = k from Fin.ext hk.symm, hM, Consts.ofBits_neg_two, ← EReal.coe_mul,
    ← EReal.coe_mul]

/-- The codebook's squared norms: entry `k`'s. -/
theorem norms_apply (hM : ∀ g k, M (ix2 g k) = (μ g k : EReal)) (k : Fin 1024) :
    k0_pay4 (F := Idealize.ShloMosaic.Ideal) M (ix2 0 k) = ((∑ g, μ g k * μ g k : ℝ) : EReal) := by
  rw [coe_sum]
  pointwise [k0_pay4, hM]
  exact Finset.sum_congr rfl fun g _ => (EReal.coe_mul _ _).symm

/-- The images' squared norms, the same in every lane. -/
theorem own_apply (hX : ∀ b g, X (ix2 b g) = (x b g : EReal)) (b : Fin 512) (l : Fin 128) :
    k0_pay3 (F := Idealize.ShloMosaic.Ideal) X (ix2 b l) = ((∑ g, x b g * x b g : ℝ) : EReal) := by
  rw [coe_sum]
  pointwise [dot_S512x256_S256x128_S512x128_1_0_0_1_n_n, k0_pay3, hX]
  exact Finset.sum_congr rfl fun g _ => (EReal.coe_mul _ _).symm

end Cert.Proof.Value

end
-- ==== Proof.KernelPoint.lean ====
/-
  The kernel's result at one image, for real images and a real codebook: the least of the image's squared distances to
  the 1024 codebook entries, times 1/256.
-/
module

public import proofs.«01_k».proof.Proof.KernelScore

@[expose] public section

noncomputable section

namespace Cert.Proof.Value

open Cert.KernelIdeal Cert.KernelIdeal.Gen
open Idealize.ShloMosaic hiding Ideal
open scoped BigOperators

/-- The float type of the exact arithmetic. -/
local notation "𝕀" => Idealize.ShloMosaic.Ideal

variable {X : FVec 𝕀 S512x256 .f32} {M : FVec 𝕀 S256x1024 .f32}
variable {x : Fin 512 → Fin 256 → ℝ} {μ : Fin 256 → Fin 1024 → ℝ}

/-- The codebook entry that lane `l` meets in step `q` of the eight. -/
def entry (q : Fin 8) (l : Fin 128) : Fin 1024 := ⟨128 * q.val + l.val, by omega⟩

/-- The score of an entry before the image's own norm is added: cross term plus squared norm. -/
def score (x : Fin 512 → Fin 256 → ℝ) (μ : Fin 256 → Fin 1024 → ℝ) (b : Fin 512) (k : Fin 1024) : ℝ :=
  (∑ g, -2 * x b g * μ g k) + ∑ g, μ g k * μ g k

/-- One step's addend to the running minimum, at image `b` and lane `l`: the score of the entry the lane meets. The step
    takes 128 columns, from `p` on, of the product with the column block at `o`, and the norms from `r` on. -/
theorem step_apply (hX : ∀ b g, X (ix2 b g) = (x b g : EReal)) (hM : ∀ g k, M (ix2 g k) = (μ g k : EReal))
    (o p r : Nat) (h : S256x1024.Slices ![0, o] S256x512) (h' : S512x512.Slices ![0, p] S512x128)
    (h'' : S1x1024.Slices ![0, r] S1x128) (hb : S1x128.Broadcasts S512x128) (b : Fin 512) (l : Fin 128) (q : Fin 8)
    (hq : o + p = 128 * q.val) (hr : r = 128 * q.val) :
    addf (extractStridedSlice S512x128 ![0, p] (matmul dot_S512x256_S256x512_S512x512_1_0_0_1_n_n none (k0_pay2 X)
        (extractStridedSlice S256x512 ![0, o] M h) (constant S512x512 .f32 0x00000000#32)) h')
      (broadcastTo S512x128 (extractStridedSlice S1x128 ![0, r] (k0_pay4 M) h'') hb) (ix2 b l)
      = (score x μ b (entry q l) : EReal) := by
  have hp : p + l.val < 512 := by have := h'.2 1; simp at this; omega
  unfold score
  rw [EReal.coe_add]
  refine congr (congrArg (fun u v : EReal => u + v) ?_) ?_
  · rw [← cross_apply hX hM o h b ⟨p + l.val, hp⟩ (entry q l) (by show 128 * q.val + l.val = o + (p + l.val); omega)]
    refine extractStridedSlice_apply _ _ _ _ _ fun a => ?_
    match a with
    | ⟨0, _⟩ => exact (Nat.zero_add _).symm
    | ⟨1, _⟩ => rfl
  · rw [← norms_apply hM (entry q l)]
    refine (broadcastTo_apply _ _ _ (ix2 0 l) fun a => ?_).trans (extractStridedSlice_apply _ _ _ _ _ fun a => ?_)
    · match a with
      | ⟨0, _⟩ => rfl
      | ⟨1, _⟩ => rfl
    · match a with
      | ⟨0, _⟩ => rfl
      | ⟨1, _⟩ => show 128 * q.val + l.val = r + l.val; omega

/-- What the kernel takes its last minimum over: per image and lane, the least of eight scores plus the image's norm. -/
def lanes (X : FVec 𝕀 S512x256 .f32) (M : FVec 𝕀 S256x1024 .f32) : FVec 𝕀 S512x128 .f32 :=
  addf (minimumf (minimumf (k0_pay6 X M) (addf (k0_pay7 X M) (k0_pay8 M)))
    (addf (extractStridedSlice S512x128 ![0, 384] (k0_pay5 X M) slices_S512x512_o0_384_S512x128)
      (broadcastTo S512x128 (extractStridedSlice S1x128 ![0, 896] (k0_pay4 M) slices_S1x1024_o0_896_S1x128)
        broadcasts_S1x128_S512x128))) (k0_pay3 X)

/-- One lane holds the least squared distance among the eight entries it met. -/
theorem lanes_apply (hX : ∀ b g, X (ix2 b g) = (x b g : EReal)) (hM : ∀ g k, M (ix2 g k) = (μ g k : EReal))
    (b : Fin 512) (l : Fin 128) :
    ∃ v : ℝ, lanes X M (ix2 b l) = (v : EReal) ∧ (∃ k, v = dist x μ b k) ∧ ∀ q, v ≤ dist x μ b (entry q l) := by
  let s : Fin 8 → ℝ := fun q => score x μ b (entry q l)
  have hd : ∀ k, score x μ b k + ∑ g, x b g * x b g = dist x μ b k := dist_expand x μ b
  refine ⟨min8 s + ∑ g, x b g * x b g, ?_, ?_, fun q => ?_⟩
  · rw [EReal.coe_add, ← own_apply hX b l]
    refine congrArg (fun u : EReal => u + k0_pay3 (F := 𝕀) X (ix2 b l)) ?_
    simp only [min8, s, coe_min]
    rw [← step_apply hX hM 0 0 0 slices_S256x1024_o0_0_S256x512 slices_S512x512_o0_0_S512x128
        slices_S1x1024_o0_0_S1x128 broadcasts_S1x128_S512x128 b l 0 rfl rfl,
      ← step_apply hX hM 0 128 128 slices_S256x1024_o0_0_S256x512 slices_S512x512_o0_128_S512x128
        slices_S1x1024_o0_128_S1x128 broadcasts_S1x128_S512x128 b l 1 rfl rfl,
      ← step_apply hX hM 0 256 256 slices_S256x1024_o0_0_S256x512 slices_S512x512_o0_256_S512x128
        slices_S1x1024_o0_256_S1x128 broadcasts_S1x128_S512x128 b l 2 rfl rfl,
      ← step_apply hX hM 0 384 384 slices_S256x1024_o0_0_S256x512 slices_S512x512_o0_384_S512x128
        slices_S1x1024_o0_384_S1x128 broadcasts_S1x128_S512x128 b l 3 rfl rfl,
      ← step_apply hX hM 512 0 512 slices_S256x1024_o0_512_S256x512 slices_S512x512_o0_0_S512x128
        slices_S1x1024_o0_512_S1x128 broadcasts_S1x128_S512x128 b l 4 rfl rfl,
      ← step_apply hX hM 512 128 640 slices_S256x1024_o0_512_S256x512 slices_S512x512_o0_128_S512x128
        slices_S1x1024_o0_640_S1x128 broadcasts_S1x128_S512x128 b l 5 rfl rfl,
      ← step_apply hX hM 512 256 768 slices_S256x1024_o0_512_S256x512 slices_S512x512_o0_256_S512x128
        slices_S1x1024_o0_768_S1x128 broadcasts_S1x128_S512x128 b l 6 rfl rfl,
      ← step_apply hX hM 512 384 896 slices_S256x1024_o0_512_S256x512 slices_S512x512_o0_384_S512x128
        slices_S1x1024_o0_896_S1x128 broadcasts_S1x128_S512x128 b l 7 rfl rfl]
    rfl
  · exact min8_ind (p := fun v => ∃ k, v + ∑ g, x b g * x b g = dist x μ b k) fun q => ⟨_, hd _⟩
  · rw [← hd]
    exact add_le_add_left (min8_le s q) _

/-- The kernel's last step: the minimum over the lanes, times its constant. -/
theorem kern_apply (X : FVec 𝕀 S512x256 .f32) (M : FVec 𝕀 S256x1024 .f32) (b : Fin 512) :
    kern (F := 𝕀) X M (ix1 b) = ((Finset.univ : Finset (Fin 128)).fold min (⊤ : EReal) fun l => lanes X M (ix2 b l))
      * ((1 / 256 : ℝ) : EReal) := by
  rw [← Consts.ofBits_inv256]
  refine congrArg (fun u : EReal => u * Ideal.ofBits .f32 0x3B800000#32) ?_
  refine (multiReduction_minimumf_eq_fold _ _ _ _ _ _).trans ?_
  rw [Shape.Reduces.fold_filter_drop_single]
  have ht : ∀ l : Fin 128, transpose S128x512 [1, 0] (lanes X M) transposes_S512x128_p1_0_S128x512
      (reduces_S128x512_S512.lift (ix1 b) l) = lanes X M (ix2 b l) := fun l =>
    transpose_apply _ _ _ _ _ fun a => match a with
      | ⟨0, _⟩ => rfl
      | ⟨1, _⟩ => rfl
  rw [← Consts.ofBits_top, ← funext ht]
  rfl

/-- **The kernel at one image**: the least squared distance to a codebook entry, over 256. -/
theorem kern_least (hX : ∀ b g, X (ix2 b g) = (x b g : EReal)) (hM : ∀ g k, M (ix2 g k) = (μ g k : EReal))
    (b : Fin 512) :
    ∃ v : ℝ, kern (F := 𝕀) X M (ix1 b) = ((v / 256 : ℝ) : EReal) ∧ IsLeast (Set.range (dist x μ b)) v := by
  choose r hr hmem hle using lanes_apply hX hM b
  obtain ⟨l, hl, hmin⟩ := fold_min_real r
  obtain ⟨k, hk⟩ := hmem l
  refine ⟨r l, ?_, ⟨k, hk.symm⟩, ?_⟩
  · rw [kern_apply, funext hr, hl, ← EReal.coe_mul, ← div_eq_mul_one_div]
  · rintro _ ⟨k, rfl⟩
    have he : entry ⟨k.val / 128, by omega⟩ ⟨k.val % 128, by omega⟩ = k := Fin.ext (Nat.div_add_mod k.val 128)
    exact (hmin ⟨k.val % 128, by omega⟩).trans ((hle _ ⟨k.val / 128, by omega⟩).trans_eq (congrArg _ he))

end Cert.Proof.Value

end
-- ==== Proof.RefRun.lean ====
/-
  The reference's run. Its @main, the bodies of its three local functions in place of their calls, is a straight line
  of host operations; `scores` is what they make of the two arguments up to the argmax, `pick` the indices the argmax
  returns, `rows` what the take reads at them, and `refOut` the result.
-/
module

public import proofs.«01_k».proof.Proof.Value
public import proofs.«01_k».proof.Proof.Gen.ReferenceIdeal
public import Idealize.ShloMosaic.Lib.StableHlo.Run

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The score of each (image, codebook entry) pair: minus the mean of the squared differences, times one. -/
def scores (X : Vec F S512x256 .f32) (M : Vec F S256x1024 .f32) : Vec F S512x1024 .f32 :=
  let T := transpose S1024x256 [1, 0] M transposes_S256x1024_S1024x256_1_0
  let a := broadcastInDim S512x1024x256 ![0, 1, 2] bcast_S512x1x256_S512x1024x256_0_1_2
    (broadcastInDim S512x1x256 ![0, 2] bcast_S512x256_S512x1x256_0_2 X)
  let b := broadcastInDim S512x1024x256 ![0, 1, 2] bcast_S1x1024x256_S512x1024x256_0_1_2
    (broadcastInDim S1x1024x256 ![1, 2] bcast_S1024x256_S1x1024x256_1_2 T)
  let d := subf a b
  let s := Host.reduceAdd (mulf d d) (constant S_ .f32 0x00000000#32) reducesTo_S512x1024x256_S512x1024_d2 h_S_
  mulf (Host.negf (Host.divf s (broadcastInDim S512x1024 ![] bcast_S_S512x1024 (constant S_ .f32 0x43800000#32))))
    (broadcastInDim S512x1024 ![] bcast_S_S512x1024 (constant S_ .f32 0x3F800000#32))

/-- The index, per image, that the argmax over the scores `s` returns. -/
def pick (s : Vec F S512x1024 .f32) : Vec F S512 .i32 := fun j =>
  (Host.argReduce reducer_argmax_f32_i32 s (iotaInDim S512x1024 32 1) (constant S_ .f32 0xFF800000#32) (constantI S_ 32 0#32)
    reducesTo_S512x1024_S512_d1 h_S_ j).2

/-- An index with a negative one counted from the end, as a one-column matrix. -/
def wrapped (k : Vec F S512 .i32) : Vec F S512x1 .i32 :=
  broadcastInDim S512x1 ![0] bcast_S512_S512x1_0
    (select (cmpi .slt k (broadcastInDim S512 ![] bcast_S_S512 (constantI S_ 32 0#32)))
      (addi k (broadcastInDim S512 ![] bcast_S_S512 (constantI S_ 32 1024#32))) k)

/-- Whether each index lies among the rows of the table. -/
def inside (w : Vec F S512x1 .i32) : Vec F S512 .i1 :=
  Host.reduce IntOp.andi
    (andi (cmpi .sge w (broadcastInDim S512x1 ![] bcast_S_S512x1 (constantI S_ 32 0#32)))
      (cmpi .sle w (broadcastInDim S512x1 ![0, 1] bcast_S1x1_S512x1_0_1
        (broadcastInDim S1x1 ![1] bcast_S1_S1x1_1 (constantI S1 32 1023#32)))))
    (constantI S_ 1 1#1) reducesTo_S512x1_S512_d1 h_S_

/-- The rows of the transposed codebook that the indices `k` name (the fill value at an index outside it). -/
def rows (M : Vec F S256x1024 .f32) (k : Vec F S512 .i32) : Vec F S512x256 .f32 :=
  select (broadcastInDim S512x256 ![0] bcast_S512_S512x256_0 (inside (F := F) (wrapped (F := F) k)))
    (Host.gather gather_S1024x256_S512x1_S512x256_1_0_n_n_0_1_1256
      (transpose S1024x256 [1, 0] M transposes_S256x1024_S1024x256_1_0) (wrapped (F := F) k))
    (broadcastInDim S512x256 ![] bcast_S_S512x256 (constant S_ .f32 0x7FC00000#32))

/-- The mean over a row of the squared differences of two matrices. -/
def meanSq (A X : Vec F S512x256 .f32) : Vec F S512 .f32 :=
  Host.divf (Host.reduceAdd (mulf (subf A X) (subf A X)) (constant S_ .f32 0x00000000#32) reducesTo_S512x256_S512_d1 h_S_)
    (broadcastInDim S512 ![] bcast_S_S512 (constant S_ .f32 0x43800000#32))

/-- The reference's result. -/
def refOut (X : Vec F S512x256 .f32) (M : Vec F S256x1024 .f32) : Vec F S512 .f32 :=
  meanSq (rows M (pick (scores X M))) X

/-- @main's operations in order, the local functions' operations at their calls. -/
abbrev ops : List (HloOp τ sig (Elt F)) :=
  [ unary main_arg1 main_v0 (transpose S1024x256 [1, 0] · transposes_S256x1024_S1024x256_1_0),
    unary main_v0 main_v1 (broadcastInDim S1x1024x256 ![1, 2] bcast_S1024x256_S1x1024x256_1_2),
    unary main_arg0 main_v2 (broadcastInDim S512x1x256 ![0, 2] bcast_S512x256_S512x1x256_0_2),
    unary main_v2 main_v3 (broadcastInDim S512x1024x256 ![0, 1, 2] bcast_S512x1x256_S512x1024x256_0_1_2),
    unary main_v1 main_v4 (broadcastInDim S512x1024x256 ![0, 1, 2] bcast_S1x1024x256_S512x1024x256_0_1_2),
    binary main_v3 main_v4 main_v5 subf,
    binary main_v5 main_v5 main_v6 mulf,
    nullary main_cst (constant S_ .f32 0x00000000#32),
    binary main_v6 main_cst main_v7 (fun x v => Host.reduceAdd x v reducesTo_S512x1024x256_S512x1024_d2 h_S_),
    nullary main_cst_0 (constant S_ .f32 0x43800000#32),
    unary main_cst_0 main_v8 (broadcastInDim S512x1024 ![] bcast_S_S512x1024),
    binary main_v7 main_v8 main_v9 Host.divf,
    unary main_v9 main_v10 Host.negf,
    nullary main_cst_1 (constant S_ .f32 0x3F800000#32),
    unary main_cst_1 main_v11 (broadcastInDim S512x1024 ![] bcast_S_S512x1024),
    binary main_v10 main_v11 main_v12 mulf,
    nullary main_call0_v0 (iotaInDim S512x1024 32 1),
    nullary main_call0_cst (constant S_ .f32 0xFF800000#32),
    nullary main_call0_c (constantI S_ 32 0#32),
    quaternary main_v12 main_call0_v0 main_call0_cst main_call0_c main_call0_v1_0
      (fun x y u v j => (Host.argReduce reducer_argmax_f32_i32 x y u v reducesTo_S512x1024_S512_d1 h_S_ j).1),
    quaternary main_v12 main_call0_v0 main_call0_cst main_call0_c main_v13
      (fun x y u v j => (Host.argReduce reducer_argmax_f32_i32 x y u v reducesTo_S512x1024_S512_d1 h_S_ j).2),
    unary main_arg1 main_v14 (transpose S1024x256 [1, 0] · transposes_S256x1024_S1024x256_1_0),
    nullary main_call1_c (constantI S_ 32 0#32),
    unary main_call1_c main_call1_v0 (broadcastInDim S512 ![] bcast_S_S512),
    binary main_v13 main_call1_v0 main_call1_v1 (cmpi .slt),
    nullary main_call1_c_0 (constantI S_ 32 1024#32),
    unary main_call1_c_0 main_call1_v2 (broadcastInDim S512 ![] bcast_S_S512),
    binary main_v13 main_call1_v2 main_call1_v3 addi,
    ternary main_call1_v1 main_call1_v3 main_v13 main_call1_v4 select,
    unary main_call1_v4 main_call1_v5 (broadcastInDim S512x1 ![0] bcast_S512_S512x1_0),
    nullary main_call1_c_1 (constantI S1 32 1023#32),
    nullary main_call1_c_2 (constantI S_ 32 0#32),
    unary main_call1_c_2 main_call1_v6 (broadcastInDim S512x1 ![] bcast_S_S512x1),
    binary main_call1_v5 main_call1_v6 main_call1_v7 (cmpi .sge),
    unary main_call1_c_1 main_call1_v8 (broadcastInDim S1x1 ![1] bcast_S1_S1x1_1),
    unary main_call1_v8 main_call1_v9 (broadcastInDim S512x1 ![0, 1] bcast_S1x1_S512x1_0_1),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S512x1_S512_d1 h_S_),
    binary main_v14 main_call1_v5 main_call1_v13
      (fun x i => Host.gather gather_S1024x256_S512x1_S512x256_1_0_n_n_0_1_1256 x i),
    unary main_call1_v12 main_call1_v14 (broadcastInDim S512x256 ![0] bcast_S512_S512x256_0),
    nullary main_call1_cst (constant S_ .f32 0x7FC00000#32),
    unary main_call1_cst main_call1_v15 (broadcastInDim S512x256 ![] bcast_S_S512x256),
    ternary main_call1_v14 main_call1_v13 main_call1_v15 main_v15 select,
    binary main_v15 main_arg0 main_v16 subf,
    binary main_v16 main_v16 main_v17 mulf,
    nullary main_cst_2 (constant S_ .f32 0x00000000#32),
    binary main_v17 main_cst_2 main_v18 (fun x v => Host.reduceAdd x v reducesTo_S512x256_S512_d1 h_S_),
    nullary main_cst_3 (constant S_ .f32 0x43800000#32),
    unary main_cst_3 main_v19 (broadcastInDim S512 ![] bcast_S_S512),
    binary main_v18 main_v19 main_v20 Host.divf ]

/-- @main is that straight line. -/
theorem main_eq (c : Dev nD) : main (F := F) c = seq ops := rfl

/-- The operations leave the reference's result, of the two arguments' contents, in the result buffer. -/
theorem out_eq (V : Valuation τ sig (Elt F)) :
    after ops V (main_v20 : DevRef τ sig) = refOut (V (main_arg0 : DevRef τ sig)) (V (main_arg1 : DevRef τ sig)) := by
  after_results
  rfl

/-- No operation writes the images. -/
theorem arg0_eq (V : Valuation τ sig (Elt F)) :
    after ops V (main_arg0 : DevRef τ sig) = V (main_arg0 : DevRef τ sig) := by
  after_results
/-- No operation writes the codebook. -/
theorem arg1_eq (V : Valuation τ sig (Elt F)) :
    after ops V (main_arg1 : DevRef τ sig) = V (main_arg1 : DevRef τ sig) := by
  after_results

/-- The program has no scoped buffer. -/
theorem scopedRefs_eq : (Finset.univ.filter fun b : Ref sig .tc => b.isScoped) = ∅ := by decide
/-- The program has no scoped semaphore. -/
theorem scopedSems_eq : (Finset.univ.filter fun sm : SemLoc sig => sm.isScoped .tc) = ∅ := by decide

/-- Every operation reads and writes the program's own buffers only. -/
theorem ops_sub : (ops : List (HloOp τ sig (Elt F))).Forall fun op => op.bufs ⊆ tcRefs τ sig :=
  ⟨unary_bufs_sub .., unary_bufs_sub .., unary_bufs_sub .., unary_bufs_sub .., unary_bufs_sub ..,
    binary_bufs_sub .., binary_bufs_sub .., nullary_bufs_sub .., binary_bufs_sub .., nullary_bufs_sub ..,
    unary_bufs_sub .., binary_bufs_sub .., unary_bufs_sub .., nullary_bufs_sub .., unary_bufs_sub ..,
    binary_bufs_sub .., nullary_bufs_sub .., nullary_bufs_sub .., nullary_bufs_sub .., quaternary_bufs_sub ..,
    quaternary_bufs_sub .., unary_bufs_sub .., nullary_bufs_sub .., unary_bufs_sub .., binary_bufs_sub ..,
    nullary_bufs_sub .., unary_bufs_sub .., binary_bufs_sub .., ternary_bufs_sub .., unary_bufs_sub ..,
    nullary_bufs_sub .., nullary_bufs_sub .., unary_bufs_sub .., binary_bufs_sub .., unary_bufs_sub ..,
    unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., binary_bufs_sub .., nullary_bufs_sub .., binary_bufs_sub .., nullary_bufs_sub ..,
    unary_bufs_sub .., binary_bufs_sub ..⟩

/-- The reference's run: the result buffer ends at `refOut` of the launched arguments, which are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v20) = refOut (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c main_v20).trans (out_eq _), (h c main_arg0).trans (arg0_eq _),
      (h c main_arg1).trans (arg1_eq _)⟩)
    (run_seq scopedRefs_eq scopedSems_eq defs main (fun _ => ops) main_eq (fun _ => ops_sub) m ρ)

end Cert.Proof.Ref

end
-- ==== Proof.RefScore.lean ====
/-
  The reference's scores and its closing mean read at an element, for real arguments: a score is minus the mean squared
  difference of an image and a codebook entry.
-/
module

public import proofs.«01_k».proof.Proof.KernelPoint
public import proofs.«01_k».proof.Proof.RefRun

@[expose] public section

noncomputable section

namespace Cert.Proof.Ref

open Cert.ReferenceIdeal Cert.ReferenceIdeal.Gen
open Idealize.ShloMosaic
open scoped BigOperators

/-- The float type of the exact arithmetic. -/
local notation "𝕀" => Idealize.ShloMosaic.Ideal

variable {X A : FVec 𝕀 S512x256 .f32} {M : FVec 𝕀 S256x1024 .f32}
variable {x a : Fin 512 → Fin 256 → ℝ} {μ : Fin 256 → Fin 1024 → ℝ}

/-- The exact quotient of a real by 256. -/
theorem div_256 (r : ℝ) : Ideal.div (r : EReal) ((256 : ℝ) : EReal) = ((r / 256 : ℝ) : EReal) := by
  rw [Ideal.div_coe (by norm_num), ← EReal.coe_mul, ← div_eq_mul_one_div]

/-- A score: minus the squared distance over 256. -/
theorem scores_apply (hX : ∀ b g, X (ix2 b g) = (x b g : EReal)) (hM : ∀ g k, M (ix2 g k) = (μ g k : EReal))
    (b : Fin 512) (k : Fin 1024) : scores (F := 𝕀) X M (ix2 b k) = ((-(dist x μ b k / 256) : ℝ) : EReal) := by
  pointwise [scores]
  have h : (∑ g, (X (ix2 b g) - M (ix2 g k)) * (X (ix2 b g) - M (ix2 g k)) : EReal) = (dist x μ b k : EReal) := by
    unfold dist
    rw [coe_sum]
    exact Finset.sum_congr rfl fun g _ => by rw [hX, hM, ← EReal.coe_sub, ← EReal.coe_mul]
  rw [EReal.coe_neg, ← div_256, ← h, Consts.ofBits_256]

/-- The closing mean: the squared distance of two rows, over 256. -/
theorem meanSq_apply (hA : ∀ b g, A (ix2 b g) = (a b g : EReal)) (hX : ∀ b g, X (ix2 b g) = (x b g : EReal)) (b : Fin 512) :
    meanSq (F := 𝕀) A X (ix1 b) = (((∑ g, (a b g - x b g) * (a b g - x b g)) / 256 : ℝ) : EReal) := by
  pointwise [meanSq]
  rw [← div_256, coe_sum, Consts.ofBits_256]
  exact congrArg (Ideal.div · ((256 : ℝ) : EReal)) (Finset.sum_congr rfl fun g _ => by
    rw [hA, hX, ← EReal.coe_sub, ← EReal.coe_mul])

end Cert.Proof.Ref

end
-- ==== Proof.ArgMax.lean ====
/-
  The index the reference's argmax returns: that of an entry whose score no other exceeds.
-/
module

public import proofs.«01_k».proof.Proof.RefScore

@[expose] public section

noncomputable section

namespace Cert.Proof.Ref

open Cert.ReferenceIdeal Cert.ReferenceIdeal.Gen
open Idealize.ShloMosaic

/-- The float type of the exact arithmetic. -/
local notation "𝕀" => Idealize.ShloMosaic.Ideal

/-- The argmax's body returns one of the two pairs it is given, whose value is not below the other's. -/
theorem reducer_pick (a b : 𝕀 .f32 × BitVec 32) :
    (reducer_argmax_f32_i32 a b = a ∧ (b.1 : EReal) ≤ a.1) ∨ (reducer_argmax_f32_i32 a b = b ∧ (a.1 : EReal) ≤ b.1) := by
  obtain ⟨a, i⟩ := a
  obtain ⟨b, j⟩ := b
  rcases lt_trichotomy (a : EReal) b with h | h | h
  · refine Or.inr ⟨?_, h.le⟩
    simp [reducer_argmax_f32_i32, Ideal.cmpf_def, Ideal.cmp, h.not_gt, h.ne, IntOp.ori, IntOp.andi, Scalar.select]
  · rcases Bool.eq_false_or_eq_true (i.slt j) with hs | hs
    · refine Or.inl ⟨?_, h.ge⟩
      simp [reducer_argmax_f32_i32, Ideal.cmpf_def, Ideal.cmp, h, hs, IntOp.ori, IntOp.andi, IntOp.cmpi, Scalar.select]
    · refine Or.inr ⟨?_, h.le⟩
      simp [reducer_argmax_f32_i32, Ideal.cmpf_def, Ideal.cmp, h, hs, IntOp.ori, IntOp.andi, IntOp.cmpi, Scalar.select]
  · have h1 : ∀ x : BitVec 1, 1#1 ||| x = 1#1 := by decide
    refine Or.inl ⟨?_, h.le⟩
    simp [reducer_argmax_f32_i32, Ideal.cmpf_def, Ideal.cmp, h, h1, IntOp.ori, IntOp.andi, Scalar.select]

/-- A left fold of a body that returns a larger of its two pairs ends at the initial pair or at a listed one, whose
    value is not below the initial pair's nor below any listed pair's. -/
theorem foldl_pick {β : Type} (f : EReal × β → EReal × β → EReal × β)
    (hf : ∀ a b, (f a b = a ∧ b.1 ≤ a.1) ∨ (f a b = b ∧ a.1 ≤ b.1)) (L : List (EReal × β)) (a : EReal × β) :
    (L.foldl f a = a ∨ L.foldl f a ∈ L) ∧ a.1 ≤ (L.foldl f a).1 ∧ ∀ p ∈ L, p.1 ≤ (L.foldl f a).1 := by
  induction L generalizing a with
  | nil => exact ⟨Or.inl rfl, le_rfl, fun p hp => absurd hp List.not_mem_nil⟩
  | cons b L ih =>
    obtain ⟨hm, hle, hall⟩ := ih (f a b)
    rw [List.foldl_cons]
    rcases hf a b with ⟨he, hb⟩ | ⟨he, hb⟩ <;> rw [he] at hm hle hall ⊢
    · refine ⟨hm.imp id (List.mem_cons_of_mem b), hle, fun p hp => ?_⟩
      rcases List.mem_cons.mp hp with rfl | hp
      · exact hb.trans hle
      · exact hall p hp
    · refine ⟨Or.inr ?_, hb.trans hle, fun p hp => ?_⟩
      · rcases hm with h | h
        · rw [h]; exact List.mem_cons_self
        · exact List.mem_cons_of_mem b h
      · rcases List.mem_cons.mp hp with rfl | hp
        · exact hle
        · exact hall p hp

/-- The row a matrix index lies in is what the argmax keeps of it. -/
theorem drop_ix2 (b : Fin 512) (k : Fin 1024) : reducesTo_S512x1024_S512_d1.drop (ix2 b k) = ix1 b :=
  funext fun a => match a with | ⟨0, _⟩ => rfl

/-- A matrix index whose row is `b` is one of row `b`'s. -/
theorem of_drop_eq (b : Fin 512) (i : S512x1024.Idx) (h : reducesTo_S512x1024_S512_d1.drop i = ix1 b) :
    ∃ k : Fin 1024, i = ix2 b k := by
  obtain ⟨c, k, rfl⟩ : ∃ (c : Fin 512) (k : Fin 1024), i = ix2 c k := ⟨i 0, i 1, eq_ix2 i⟩
  rw [drop_ix2, ix1_inj] at h
  exact ⟨k, by rw [h]⟩

/-- **The argmax on real scores**: at image `b` it returns the number of an entry with the greatest score. -/
theorem pick_apply (s : FVec 𝕀 S512x1024 .f32) (b : Fin 512) (r : Fin 1024 → ℝ)
    (hs : ∀ k, s (ix2 b k) = (r k : EReal)) :
    ∃ k : Fin 1024, pick (F := 𝕀) s (ix1 b) = BitVec.ofNat 32 k.val ∧ ∀ k', r k' ≤ r k := by
  have hp : pick (F := 𝕀) s (ix1 b) = ((Host.argReduceFiber s (iotaInDim S512x1024 32 1) reducesTo_S512x1024_S512_d1
      (ix1 b)).foldl reducer_argmax_f32_i32 ((⊥ : EReal), 0#32)).2 := by
    unfold pick
    rw [Ideal.argReduce_eq_reduce2, Host.reduce2_eq_foldl_fiber, ← Consts.ofBits_bot]
    rfl
  obtain ⟨hm, -, hall⟩ := foldl_pick _ reducer_pick (Host.argReduceFiber s (iotaInDim S512x1024 32 1)
    reducesTo_S512x1024_S512_d1 (ix1 b)) ((⊥ : EReal), 0#32)
  have hin : ∀ k, ((r k : EReal), BitVec.ofNat 32 k.val) ∈ Host.argReduceFiber s (iotaInDim S512x1024 32 1)
      reducesTo_S512x1024_S512_d1 (ix1 b) := fun k => by
    refine List.mem_map.mpr ⟨S512x1024.rowMajor (ix2 b k), List.mem_filter.mpr ⟨List.mem_finRange _, ?_⟩, ?_⟩
    · rw [Equiv.symm_apply_apply]
      exact decide_eq_true (drop_ix2 b k)
    · rw [Equiv.symm_apply_apply, hs]
      rfl
  rcases hm with h | h
  · have := hall _ (hin 0)
    rw [h] at this
    exact absurd (le_bot_iff.mp this) (EReal.coe_ne_bot _)
  · obtain ⟨n, hn, he⟩ := List.mem_map.mp h
    have hd := of_decide_eq_true (List.mem_filter.mp hn).2
    generalize S512x1024.rowMajor.symm n = i at he hd
    obtain ⟨k, rfl⟩ := of_drop_eq b i hd
    refine ⟨k, ?_, fun k' => ?_⟩
    · rw [hp, ← he]
      rfl
    · have := hall _ (hin k')
      rw [← he, hs] at this
      exact EReal.coe_le_coe_iff.mp this

end Cert.Proof.Ref

end
-- ==== Proof.RefRows.lean ====
/-
  The take's rows: at an index among the table's rows, the row of that number.
-/
module

public import proofs.«01_k».proof.Proof.ArgMax
public import Idealize.ShloMosaic.Lib.Routing.Ops

@[expose] public section

noncomputable section

namespace Cert.Proof.Ref

open Cert.ReferenceIdeal Cert.ReferenceIdeal.Gen
open Idealize.ShloMosaic

/-- The float type of the exact arithmetic. -/
local notation "𝕀" => Idealize.ShloMosaic.Ideal

/-- A row number is no negative word, and as a signed number is itself. -/
theorem toInt_row (n : Fin 1024) : (BitVec.ofNat 32 n.val).toInt = n.val := by
  have h := n.isLt
  rw [BitVec.toInt_eq_toNat_of_lt (by rw [BitVec.toNat_ofNat]; omega), BitVec.toNat_ofNat]
  omega

/-- An index that is a row number is left as it is. -/
theorem wrapped_apply (k : Vec 𝕀 S512 .i32) (b : Fin 512) (n : Fin 1024) (hk : k (ix1 b) = BitVec.ofNat 32 n.val) :
    wrapped (F := 𝕀) k (ix2 b 0) = BitVec.ofNat 32 n.val := by
  have hn : (BitVec.ofNat 32 n.val).slt 0#32 = false := by
    rw [BitVec.slt_eq_decide, toInt_row]
    exact decide_eq_false (by simp)
  pointwise [wrapped, hk]
  simp [IntOp.cmpi, hn, Scalar.select]

/-- The conjunction over one coordinate is that coordinate's bit. -/
theorem fold_one (f : Fin 1 → BitVec 1) (h : f 0 = 1#1) :
    (Finset.univ : Finset (Fin 1)).fold IntOp.andi 1#1 f = 1#1 := by
  rw [Finset.univ_unique, Finset.fold_singleton]
  exact (congrArg (IntOp.andi · 1#1) h).trans (by decide)

/-- A row number counts as inside the table. -/
theorem inside_apply (w : Vec 𝕀 S512x1 .i32) (b : Fin 512) (n : Fin 1024) (hw : w (ix2 b 0) = BitVec.ofNat 32 n.val) :
    inside (F := 𝕀) w (ix1 b) = 1#1 := by
  have hlo : (0#32).sle (BitVec.ofNat 32 n.val) = true := by
    rw [BitVec.sle_eq_decide, toInt_row]
    exact decide_eq_true (by simp)
  have hhi : (BitVec.ofNat 32 n.val).sle 1023#32 = true := by
    rw [BitVec.sle_eq_decide, toInt_row]
    exact decide_eq_true (by have := n.isLt; simp; omega)
  have hr : S512x1.Reduces [1] S512 := by decide
  have hl : hr.lift (ix1 b) (0 : Fin 1) = ix2 b 0 := funext fun a => match a with
    | ⟨0, _⟩ => rfl
    | ⟨1, _⟩ => rfl
  unfold inside
  rw [Host.reduce_eq_fold_single _ _ _ _ hr]
  refine fold_one _ ?_
  show IntOp.andi (IntOp.cmpi .sge (w (hr.lift (ix1 b) (0 : Fin 1))) 0#32)
    (IntOp.cmpi .sle (w (hr.lift (ix1 b) (0 : Fin 1))) 1023#32) = 1#1
  rw [hl, hw]
  simp [IntOp.cmpi, IntOp.andi, hlo, hhi]

/-- The gather at a row number reads that row. -/
theorem gather_apply (T : Vec 𝕀 S1024x256 .f32) (w : Vec 𝕀 S512x1 .i32) (b : Fin 512) (g : Fin 256) (n : Fin 1024)
    (hw : w (ix2 b 0) = BitVec.ofNat 32 n.val) :
    Host.gather gather_S1024x256_S512x1_S512x256_1_0_n_n_0_1_1256 T w (ix2 b g) = T (ix2 n g) :=
  Routing.gather_row gather_S1024x256_S512x1_S512x256_1_0_n_n_0_1_1256 rfl rfl rfl rfl rfl T w b g n hw (by norm_num)

/-- **The take**: at an index that is a row number, the codebook entry of that number. -/
theorem rows_apply (M : FVec 𝕀 S256x1024 .f32) (k : Vec 𝕀 S512 .i32) (b : Fin 512) (g : Fin 256) (n : Fin 1024)
    (hk : k (ix1 b) = BitVec.ofNat 32 n.val) : rows (F := 𝕀) M k (ix2 b g) = M (ix2 g n) := by
  have hw := wrapped_apply k b n hk
  have hi := inside_apply (wrapped k) b n hw
  have hg := gather_apply (transpose S1024x256 [1, 0] M transposes_S256x1024_S1024x256_1_0) (wrapped k) b g n hw
  have hb : broadcastInDim S512x256 ![0] bcast_S512_S512x256_0 (inside (F := 𝕀) (wrapped (F := 𝕀) k)) (ix2 b g) = 1#1 := by
    rw [← hi]
    exact broadcastInDim_apply _ _ _ _ (ix1 b) fun a => match a with | ⟨0, _⟩ => rfl
  have ht : transpose S1024x256 [1, 0] M transposes_S256x1024_S1024x256_1_0 (ix2 n g) = M (ix2 g n) :=
    transpose_apply _ _ _ _ _ fun a => match a with
      | ⟨0, _⟩ => rfl
      | ⟨1, _⟩ => rfl
  refine Eq.trans ?_ (hg.trans ht)
  unfold rows
  exact if_pos hb

end Cert.Proof.Ref

end
-- ==== Proof.Equation.lean ====
/-
  The equation of the two programs' results on finite arguments: at every image both are the least squared distance to a
  codebook entry, over 256.
-/
module

public import proofs.«01_k».proof.Proof.RefRows
public import proofs.«01_k».proof.Pre_finite

@[expose] public section

noncomputable section

namespace Cert.Proof

open Idealize.ShloMosaic
open scoped BigOperators

/-- The float type of the exact arithmetic. -/
local notation "𝕀" => Idealize.ShloMosaic.Ideal

/-- **The reference at one image**, for real arguments: the least squared distance to a codebook entry, over 256. -/
theorem ref_least {X : FVec 𝕀 Cert.ReferenceIdeal.S512x256 .f32} {M : FVec 𝕀 Cert.ReferenceIdeal.S256x1024 .f32}
    {x : Fin 512 → Fin 256 → ℝ} {μ : Fin 256 → Fin 1024 → ℝ}
    (hX : ∀ b g, X (ix2 b g) = (x b g : EReal)) (hM : ∀ g k, M (ix2 g k) = (μ g k : EReal)) (b : Fin 512) :
    ∃ v : ℝ, Ref.refOut (F := 𝕀) X M (ix1 b) = ((v / 256 : ℝ) : EReal) ∧ IsLeast (Set.range (dist x μ b)) v := by
  choose n hn hmax using fun b => Ref.pick_apply (Ref.scores (F := 𝕀) X M) b _ (Ref.scores_apply hX hM b)
  refine ⟨dist x μ b (n b), ?_, ⟨n b, rfl⟩, ?_⟩
  · unfold Ref.refOut
    rw [Ref.meanSq_apply (fun b g => (Ref.rows_apply M _ b g (n b) (hn b)).trans (hM g (n b))) hX b]
    unfold dist
    refine congrArg (fun r : ℝ => ((r / 256 : ℝ) : EReal)) (Finset.sum_congr rfl fun g _ => ?_)
    ring
  · rintro _ ⟨k, rfl⟩
    have h := hmax b k
    linarith

/-- An extended real below `+∞` in absolute value is a real. -/
theorem real_of_abs_lt_top (a : EReal) (h : max a (-a) < ⊤) : ∃ r : ℝ, a = (r : EReal) := by
  induction a with
  | bot => exact absurd h (by simp)
  | coe r => exact ⟨r, rfl⟩
  | top => exact absurd h (by simp)

/-- **The two results are equal** where every element of both arguments is a real. -/
theorem kern_eq_refOut (X : FVec 𝕀 Cert.KernelIdeal.S512x256 .f32) (M : FVec 𝕀 Cert.KernelIdeal.S256x1024 .f32)
    (hX : ∀ i, ∃ r : ℝ, X i = (r : EReal)) (hM : ∀ i, ∃ r : ℝ, M i = (r : EReal)) :
    Value.kern (F := 𝕀) X M = Ref.refOut (F := 𝕀) X M := by
  choose x hx using hX
  choose μ hμ using hM
  funext i
  obtain ⟨b, rfl⟩ : ∃ b : Fin 512, i = ix1 b := ⟨i 0, eq_ix1 i⟩
  obtain ⟨v, hv, hl⟩ := Value.kern_least (x := fun b g => x (ix2 b g)) (μ := fun g k => μ (ix2 g k))
    (fun b g => hx _) (fun g k => hμ _) b
  obtain ⟨w, hw, hl'⟩ := ref_least (x := fun b g => x (ix2 b g)) (μ := fun g k => μ (ix2 g k))
    (fun b g => hx _) (fun g k => hμ _) b
  rw [hv, hw, hl.unique hl']

end Cert.Proof

end
-- ==== Proof.Finish.lean ====
/-
  The two claims about the reference's run that need more than its result: its frame, with the counters, and the
  algebraic claim.
-/
module

public import proofs.«01_k».proof.Proof.Equation
public import proofs.«01_k».proof.Defs
public import proofs.«01_k».proof.Proof.Gen.Pre_finite

@[expose] public section

noncomputable section

namespace Cert.Proof

open Idealize.ShloMosaic Idealize.ShloMosaic.TcCoe Idealize.SL.Sem

/-- The reference declares no semaphore, so every assignment of counters is the zero one. -/
theorem ref_sem {β : Type} (f g : GSem Cert.ReferenceIdeal.nD Cert.ReferenceIdeal.τ Cert.ReferenceIdeal.sig → β) : f = g :=
  funext fun
    | (_, .reg s) => s.elim0
    | (_, .dma s) => s.elim0

/-- The reference's frame: it runs, its arguments end unchanged, its counters at zero. -/
theorem ref_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => (∀ c : Dev Cert.ReferenceIdeal.nD,
        r.2.mem ((c : Thread Cert.ReferenceIdeal.nD Cert.ReferenceIdeal.τ).loc Cert.ReferenceIdeal.main_arg0)
            = m ((c : Thread Cert.ReferenceIdeal.nD Cert.ReferenceIdeal.τ).loc Cert.ReferenceIdeal.main_arg0)
        ∧ r.2.mem ((c : Thread Cert.ReferenceIdeal.nD Cert.ReferenceIdeal.τ).loc Cert.ReferenceIdeal.main_arg1)
            = m ((c : Thread Cert.ReferenceIdeal.nD Cert.ReferenceIdeal.τ).loc Cert.ReferenceIdeal.main_arg1))
        ∧ r.2.sem = fun _ => 0 :=
  (θ_run _ _ _).mono (fun _ h => ⟨fun c => (h c).2, ref_sem _ _⟩) (Ref.run m ρ)

/-- The precondition makes every element of both arguments a real. -/
theorem real_of_finite (X : FVec Ideal Cert.Pre_finite.S512x256 .f32) (M : FVec Ideal Cert.Pre_finite.S256x1024 .f32)
    (h : (Cert.Pre_finite.fn X M).1 = (fun _ => 1#1) ∧ (Cert.Pre_finite.fn X M).2 = (fun _ => 1#1)) :
    (∀ i, ∃ r : ℝ, X i = (r : EReal)) ∧ ∀ i, ∃ r : ℝ, M i = (r : EReal) := by
  have hb : ∀ p : Bool, BitVec.ofBool p = 1#1 → p = true := by decide
  have key : ∀ a : EReal, Ideal.cmp .olt (max a (-a)) (Ideal.ofBits .f32 0x7F800000#32) = 1#1 → ∃ r : ℝ, a = (r : EReal) :=
    fun a ha => real_of_abs_lt_top a (by
      rw [Consts.ofBits_top] at ha
      exact of_decide_eq_true (hb _ ha))
  exact ⟨fun i => key _ (congrFun h.1 i), fun i => key _ (congrFun h.2 i)⟩

/-- **The algebraic claim**: on finite arguments the kernel and the reference end with equal results. -/
theorem algebraic : algebraic_KernelIdeal_ReferenceIdeal_pre_finite := by
  intro m g m' g' hpre hargs
  refine ⟨fun c => Value.kern (m ((c : Thread Cert.KernelIdeal.nD Cert.KernelIdeal.τ).loc Cert.KernelIdeal.main_arg0))
    (m ((c : Thread Cert.KernelIdeal.nD Cert.KernelIdeal.τ).loc Cert.KernelIdeal.main_arg1)), Value.run m g, ?_⟩
  refine (θ_run _ _ _).mono (fun r h c => ⟨(h c).1.trans ?_, (h c).2⟩) (Ref.run m' g')
  obtain ⟨hX, hM⟩ := real_of_finite _ _ (hpre c)
  rw [(hargs c).1, (hargs c).2]
  exact (kern_eq_refOut _ _ hX hM).symm

end Cert.Proof

end
-- ==== Proof.lean ====
/-
  The certificate of the quantization-loss kernel: its frames are the generated ones, the reference's is its run's, and
  the algebraic claim is `Cert.Proof.algebraic` (Proof/Finish.lean), whose parts lie one to a module:

  - Proof/Value.lean: what the result array holds after the kernel's run, as one term of the two arguments;
  - Proof/RefRun.lean: the reference's run, its result as one term of the two arguments;
  - Proof/Consts.lean, Proof/Dist.lean: the constants' values, and the facts about reals and minima;
  - Proof/KernelScore.lean, Proof/KernelPoint.lean: the kernel's term at one image;
  - Proof/RefScore.lean, Proof/ArgMax.lean, Proof/RefRows.lean: the reference's term, stage by stage;
  - Proof/Equation.lean: the two terms are equal on finite arguments.
-/
module

public import proofs.«01_k».proof.Defs
public import proofs.«01_k».proof.Proof.Finish
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g,
    fun m g _ => Cert.KernelIdeal.Gen.frame m g,
    fun m g _ => Cert.KernelIdeal.Gen.frame m g,
    fun m g _ => ref_frame m g,
    fun m g _ => ref_frame m g,
    trivial,
    algebraic⟩

end Cert.Proof

end
